-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x512 : Shape := ⟨2, ![50000, 512]⟩
abbrev S50000 : Shape := ⟨1, ![50000]⟩
abbrev S256x512 : Shape := ⟨2, ![256, 512]⟩
abbrev S256 : Shape := ⟨1, ![256]⟩
abbrev S512x512 : Shape := ⟨2, ![512, 512]⟩
abbrev S512 : Shape := ⟨1, ![512]⟩
abbrev S10x1x5000 : Shape := ⟨3, ![10, 1, 5000]⟩
abbrev S256x1 : Shape := ⟨2, ![256, 1]⟩
abbrev S1x512 : Shape := ⟨2, ![1, 512]⟩
abbrev S128x512 : Shape := ⟨2, ![128, 512]⟩
abbrev S5000x512 : Shape := ⟨2, ![5000, 512]⟩
abbrev S1x1x5000 : Shape := ⟨3, ![1, 1, 5000]⟩
abbrev S128x1 : Shape := ⟨2, ![128, 1]⟩
abbrev S256x5000 : Shape := ⟨2, ![256, 5000]⟩
abbrev S1x5000 : Shape := ⟨2, ![1, 5000]⟩
abbrev S128x5000 : Shape := ⟨2, ![128, 5000]⟩
abbrev S128 : Shape := ⟨1, ![128]⟩
abbrev S5000x1 : Shape := ⟨2, ![5000, 1]⟩

abbrev nBuf : Space → Nat
  | .hbm => 12
  | .vmem => 13
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S256x512, .f32⟩
  | .hbm, ⟨3, _⟩ => ⟨S256, .f32⟩
  | .hbm, ⟨4, _⟩ => ⟨S256, .f32⟩
  | .hbm, ⟨5, _⟩ => ⟨S512x512, .f32⟩
  | .hbm, ⟨6, _⟩ => ⟨S512, .f32⟩
  | .hbm, ⟨7, _⟩ => ⟨S10x1x5000, .i32⟩
  | .hbm, ⟨8, _⟩ => ⟨S256x1, .f32⟩
  | .hbm, ⟨9, _⟩ => ⟨S256x1, .f32⟩
  | .hbm, ⟨10, _⟩ => ⟨S1x512, .f32⟩
  | .hbm, ⟨11, _⟩ => ⟨S128x512, .f32⟩
  | .local _ .vmem, ⟨0, _⟩ => ⟨S5000x512, .f32⟩
  | .local _ .vmem, ⟨1, _⟩ => ⟨S5000x512, .f32⟩
  | .local _ .vmem, ⟨2, _⟩ => ⟨S1x1x5000, .i32⟩
  | .local _ .vmem, ⟨3, _⟩ => ⟨S1x1x5000, .i32⟩
  | .local _ .vmem, ⟨4, _⟩ => ⟨S256x512, .f32⟩
  | .local _ .vmem, ⟨5, _⟩ => ⟨S256x1, .f32⟩
  | .local _ .vmem, ⟨6, _⟩ => ⟨S256x1, .f32⟩
  | .local _ .vmem, ⟨7, _⟩ => ⟨S512x512, .f32⟩
  | .local _ .vmem, ⟨8, _⟩ => ⟨S1x512, .f32⟩
  | .local _ .vmem, ⟨9, _⟩ => ⟨S128x512, .f32⟩
  | .local _ .vmem, ⟨10, _⟩ => ⟨S128x1, .f32⟩
  | .local _ .vmem, ⟨11, _⟩ => ⟨S128x1, .f32⟩
  | .local _ .vmem, ⟨12, _⟩ => ⟨S128x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v73 : BitVec 1 := Scalar.cmpi .eq arg0 c9_i32
  let v74 : BitVec 32 := Scalar.extui v73
  let c0_i32_35 : BitVec 32 := 0#32
  let v75 : BitVec 1 := Scalar.cmpi .ne v74 c0_i32_35
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S50000x512 : Shape := ⟨2, ![50000, 512]⟩
abbrev S50000 : Shape := ⟨1, ![50000]⟩
abbrev S256x512 : Shape := ⟨2, ![256, 512]⟩
abbrev S256 : Shape := ⟨1, ![256]⟩
abbrev S512x512 : Shape := ⟨2, ![512, 512]⟩
abbrev S512 : Shape := ⟨1, ![512]⟩
abbrev S512x256 : Shape := ⟨2, ![512, 256]⟩
abbrev S50000x256 : Shape := ⟨2, ![50000, 256]⟩
abbrev S1x256 : Shape := ⟨2, ![1, 256]⟩
abbrev S1x50000 : Shape := ⟨2, ![1, 50000]⟩
abbrev S128 : Shape := ⟨1, ![128]⟩
abbrev S128x1 : Shape := ⟨2, ![128, 1]⟩
abbrev S128x50000 : Shape := ⟨2, ![128, 50000]⟩
abbrev S_ : Shape := ⟨0, ![]⟩
abbrev S50000x1 : Shape := ⟨2, ![50000, 1]⟩
abbrev S128x512 : Shape := ⟨2, ![128, 512]⟩
abbrev S1x512 : Shape := ⟨2, ![1, 512]⟩

abbrev nBuf : Space → Nat
  | .hbm => 68
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S256x512, .f32⟩
  | .hbm, ⟨3, _⟩ => ⟨S256, .f32⟩
  | .hbm, ⟨4, _⟩ => ⟨S256, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S50000x256, .f32⟩
  | .hbm, ⟨9, _⟩ => ⟨S1x256, .f32⟩
  | .hbm, ⟨10, _⟩ => ⟨S50000x256, .f32⟩
  | .hbm, ⟨11, _⟩ => ⟨S50000x256, .f32⟩
  | .hbm, ⟨12, _⟩ => ⟨S50000x256, .f32⟩
  | .hbm, ⟨13, _⟩ => ⟨S50000, .f32⟩
  | .hbm, ⟨14, _⟩ => ⟨S1x50000, .i32⟩
  | .hbm, ⟨15, _⟩ => ⟨S128, .i32⟩
  | .hbm, ⟨16, _⟩ => ⟨S128x1, .i32⟩
  | .hbm, ⟨17, _⟩ => ⟨S128x50000, .i32⟩
  | .hbm, ⟨18, _⟩ => ⟨S128x50000, .i32⟩
  | .hbm, ⟨19, _⟩ => ⟨S128x50000, .i1⟩
  | .hbm, ⟨20, _⟩ => ⟨S1x50000, .f32⟩
  | .hbm, ⟨21, _⟩ => ⟨S_, .f32⟩
  | .hbm, ⟨22, _⟩ => ⟨S_, .f32⟩
  | .hbm, ⟨23, _⟩ => ⟨S128x50000, .f32⟩
  | .hbm, ⟨24, _⟩ => ⟨S128x50000, .f32⟩
  | .hbm, ⟨25, _⟩ => ⟨S128x50000, .f32⟩
  | .hbm, ⟨26, _⟩ => ⟨S_, .f32⟩
  | .hbm, ⟨27, _⟩ => ⟨S128, .f32⟩
  | .hbm, ⟨28, _⟩ => ⟨S_, .i32⟩
  | .hbm, ⟨29, _⟩ => ⟨S50000, .i32⟩
  | .hbm, ⟨30, _⟩ => ⟨S50000, .i1⟩
  | .hbm, ⟨31, _⟩ => ⟨S_, .i32⟩
  | .hbm, ⟨32, _⟩ => ⟨S50000, .i32⟩
  | .hbm, ⟨33, _⟩ => ⟨S50000, .i32⟩
  | .hbm, ⟨34, _⟩ => ⟨S50000, .i32⟩
  | .hbm, ⟨35, _⟩ => ⟨S50000x1, .i32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S128, .f32⟩
  | .hbm, ⟨41, _⟩ => ⟨S50000x1, .i32⟩
  | .hbm, ⟨42, _⟩ => ⟨S128, .f32⟩
  | .hbm, ⟨43, _⟩ => ⟨S_, .i32⟩
  | .hbm, ⟨44, _⟩ => ⟨S50000, .i32⟩
  | .hbm, ⟨45, _⟩ => ⟨S50000, .i1⟩
  | .hbm, ⟨46, _⟩ => ⟨S_, .i32⟩
  | .hbm, ⟨47, _⟩ => ⟨S50000, .i32⟩
  | .hbm, ⟨48, _⟩ => ⟨S50000, .i32⟩
  | .hbm, ⟨49, _⟩ => ⟨S50000, .i32⟩
  | .hbm, ⟨50, _⟩ => ⟨S50000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x512, .f32⟩
  | .hbm, ⟨58, _⟩ => ⟨S50000x512, .f32⟩
  | .hbm, ⟨59, _⟩ => ⟨S_, .f32⟩
  | .hbm, ⟨60, _⟩ => ⟨S128x512, .f32⟩
  | .hbm, ⟨61, _⟩ => ⟨S50000x1, .i32⟩
  | .hbm, ⟨62, _⟩ => ⟨S128x512, .f32⟩
  | .hbm, ⟨63, _⟩ => ⟨S512x512, .f32⟩
  | .hbm, ⟨64, _⟩ => ⟨S128x512, .f32⟩
  | .hbm, ⟨65, _⟩ => ⟨S1x512, .f32⟩
  | .hbm, ⟨66, _⟩ => ⟨S128x512, .f32⟩
  | .hbm, ⟨67, _⟩ => ⟨S128x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proof.Softmax.lean ====
module

public import Idealize.ShloMosaic.PureOps.Ideal
public import Idealize.ShloMosaic.PureOps.Ideal.Laws

/-!
# A softmax-weighted sum taken in stages

One segment is a predicate `p` on the rows; row `n` has the score `s n`. `best S` is the largest score of the segment's
rows in `S`, `weight M n` is `exp (s n − M)` for a row of the segment and `0` for any other, with `M = −∞` read as `0`.
`total S f` is the sum of `weight (best S) n * f n` over `S`. The theorem `total_union` is what lets a kernel take the rows
block by block: what was summed against an old maximum is multiplied by `rescale old new` and the new block added.

All of it is over the extended reals, with scores and factors that may be infinite.
-/

@[expose] public section

noncomputable section

namespace Cert.Pool

open Idealize.ShloMosaic

/-- A maximum that may be `−∞` (no row of the segment so far), read as `0` in that case. -/
def safe (M : EReal) : EReal := if M = ⊥ then 0 else M

/-- The factor by which sums taken against the maximum `a` are brought to the maximum `M`. -/
def rescale (a M : EReal) : EReal := if M = ⊥ then 1 else Ideal.exp (a - M)

/-- An exponential is not negative. -/
theorem exp_nonneg (x : EReal) : 0 ≤ Ideal.exp x := by
  induction x using EReal.rec with
  | bot => simp
  | top => simp
  | coe r => rw [Ideal.exp_coe]; exact_mod_cast (Real.exp_pos r).le

/-- The exponential of a difference `s − M` with `s ≤ M` is at most `1`, the differences of equal infinities included. -/
theorem exp_sub_le_one {s M : EReal} (h : s ≤ M) : Ideal.exp (s - M) ≤ 1 := by
  induction M using EReal.rec with
  | bot =>
    obtain rfl : s = ⊥ := le_bot_iff.1 h
    simp [sub_eq_add_neg]
  | top => simp [sub_eq_add_neg]
  | coe m =>
    induction s using EReal.rec with
    | bot => simp [sub_eq_add_neg]
    | top => exact absurd h (by simp)
    | coe r =>
      have hr : r ≤ m := by exact_mod_cast h
      rw [← EReal.coe_sub, Ideal.exp_coe]
      exact_mod_cast Real.exp_le_one_iff.2 (by linarith)

/-- Against a safe maximum the exponential is what it is against the maximum itself, for a score not above it. -/
theorem exp_sub_safe {s M : EReal} (h : s ≤ M) : Ideal.exp (s - safe M) = Ideal.exp (s - M) := by
  unfold safe
  split
  · next hM =>
    subst hM
    obtain rfl : s = ⊥ := le_bot_iff.1 h
    simp [sub_eq_add_neg]
  · rfl

/-- The factor is not negative. -/
theorem rescale_nonneg (a M : EReal) : 0 ≤ rescale a M := by
  unfold rescale
  split
  · exact zero_le_one
  · exact exp_nonneg _

/-- The factor is not `+∞`, since the new maximum is not below the old. -/
theorem rescale_ne_top {a M : EReal} (h : a ≤ M) : rescale a M ≠ ⊤ := by
  refine ne_top_of_le_ne_top (b := 1) (by exact EReal.coe_ne_top 1) ?_
  unfold rescale
  split
  · exact le_rfl
  · exact exp_sub_le_one h

/-- A weight against the old maximum times the factor is the weight against the new one. -/
theorem exp_mul_rescale {s a M : EReal} (h : s ≤ a) (h' : a ≤ M) :
    Ideal.exp (s - safe a) * rescale a M = Ideal.exp (s - safe M) := by
  rw [exp_sub_safe h, exp_sub_safe (h.trans h')]
  unfold rescale
  split
  · next hM =>
    subst hM
    obtain rfl : a = ⊥ := le_bot_iff.1 h'
    rw [mul_one]
  · induction M using EReal.rec with
    | bot => simp_all
    | top => simp [sub_eq_add_neg]
    | coe m =>
      induction a using EReal.rec with
      | bot =>
        obtain rfl : s = ⊥ := le_bot_iff.1 h
        simp [sub_eq_add_neg]
      | top => exact absurd h' (by simp)
      | coe b =>
        induction s using EReal.rec with
        | bot => simp [sub_eq_add_neg]
        | top => exact absurd h (by simp)
        | coe r =>
          rw [← EReal.coe_sub, ← EReal.coe_sub, ← EReal.coe_sub, Ideal.exp_coe, Ideal.exp_coe, Ideal.exp_coe, ← EReal.coe_mul,
            ← Real.exp_add]
          congr 2
          ring

/-- A factor that is not negative and not `+∞` goes into a sum, whatever the terms. -/
theorem sum_mul_of_nonneg {ι : Type*} (S : Finset ι) (f : ι → EReal) {c : EReal} (h : 0 ≤ c) (h' : c ≠ ⊤) :
    (∑ n ∈ S, f n) * c = ∑ n ∈ S, f n * c := by
  classical
  induction S using Finset.induction_on with
  | empty => simp
  | insert a S ha ih => rw [Finset.sum_insert ha, Finset.sum_insert ha, EReal.right_distrib_of_nonneg_of_ne_top h h', ih]

section Segment

variable {ι : Type*} (p : ι → Prop) [DecidablePred p] (s : ι → EReal)

/-- The largest score of the segment's rows in `S`; `−∞` when there is none. -/
def best (S : Finset ι) : EReal := S.sup fun n => if p n then s n else ⊥

/-- The weight of row `n` against the maximum `M`. -/
def weight (M : EReal) (n : ι) : EReal := if p n then Ideal.exp (s n - safe M) else 0

/-- The weighted sum of `f` over the rows `S`, the weights against the maximum of `S` itself. -/
def total (S : Finset ι) (f : ι → EReal) : EReal := ∑ n ∈ S, weight p s (best p s S) n * f n

variable {p s}

/-- A row of the segment in `S` scores at most the largest. -/
theorem le_best {S : Finset ι} {n : ι} (hn : n ∈ S) (hp : p n) : s n ≤ best p s S := by
  have h := Finset.le_sup (f := fun n => if p n then s n else ⊥) hn
  refine le_of_eq_of_le ?_ h
  simp only [hp, if_true]

/-- The largest over two sets is the larger of the two. -/
theorem best_union [DecidableEq ι] (S T : Finset ι) : best p s (S ∪ T) = max (best p s S) (best p s T) := Finset.sup_union

/-- A weight is not negative. -/
theorem weight_nonneg (M : EReal) (n : ι) : 0 ≤ weight p s M n := by
  unfold weight
  split
  · exact exp_nonneg _
  · exact le_rfl

/-- A weight against the largest score is at most `1`. -/
theorem weight_best_le_one {S : Finset ι} {n : ι} (hn : n ∈ S) : weight p s (best p s S) n ≤ 1 := by
  unfold weight
  split
  · next hp => rw [exp_sub_safe (le_best hn hp)]; exact exp_sub_le_one (le_best hn hp)
  · exact zero_le_one

/-- The rows of `S` and then those of `T`: what stands for `S` is brought to the common maximum and the terms of `T` added. -/
theorem total_union [DecidableEq ι] {S T : Finset ι} (h : Disjoint S T) (f : ι → EReal) :
    total p s (S ∪ T) f = total p s S f * rescale (best p s S) (max (best p s S) (best p s T))
      + ∑ n ∈ T, weight p s (max (best p s S) (best p s T)) n * f n := by
  unfold total
  rw [best_union, Finset.sum_union h, sum_mul_of_nonneg _ _ (rescale_nonneg _ _) (rescale_ne_top (le_max_left _ _))]
  congr 1
  refine Finset.sum_congr rfl fun n hn => ?_
  rw [mul_assoc, mul_comm (f n), ← mul_assoc]
  congr 1
  unfold weight
  split
  · next hp => exact (exp_mul_rescale (le_best hn hp) (le_max_left _ _)).symm
  · rw [zero_mul]

/-- The sum of the weights is a real number that is not negative. -/
theorem total_one_real (S : Finset ι) : ∃ r : ℝ, 0 ≤ r ∧ total p s S (fun _ => 1) = (r : EReal) := by
  have h0 : 0 ≤ total p s S fun _ => 1 := Finset.sum_nonneg fun n _ => by rw [mul_one]; exact weight_nonneg _ n
  have h1 : total p s S (fun _ => 1) ≤ ((S.card : ℝ) : EReal) := by
    refine (Finset.sum_le_card_nsmul S _ 1 fun n hn => ?_).trans_eq ?_
    · rw [mul_one]; exact weight_best_le_one hn
    · rw [nsmul_one]; rfl
  have ht : total p s S (fun _ => 1) ≠ ⊤ := ne_top_of_le_ne_top (EReal.coe_ne_top _) h1
  have hb : total p s S (fun _ => 1) ≠ ⊥ := ne_of_gt (lt_of_lt_of_le EReal.bot_lt_zero h0)
  refine ⟨(total p s S fun _ => 1).toReal, ?_, (EReal.coe_toReal ht hb).symm⟩
  exact EReal.toReal_nonneg h0

/-- Dividing the weighted sum by the sum of the weights plus a positive `e` is summing each term with its weight so divided. -/
theorem div_total (S : Finset ι) (f : ι → EReal) {e : ℝ} (he : 0 < e) :
    Ideal.div (total p s S f) (total p s S (fun _ => 1) + (e : EReal))
      = ∑ n ∈ S, f n * Ideal.div (weight p s (best p s S) n) (total p s S (fun _ => 1) + (e : EReal)) := by
  obtain ⟨r, hr, h⟩ := total_one_real (p := p) (s := s) S
  rw [h, ← EReal.coe_add]
  have hne : ((r + e : ℝ) : EReal) ≠ 0 := by exact_mod_cast (by linarith : (0 : ℝ) < r + e).ne'
  unfold Ideal.div
  simp only [if_neg hne, ← EReal.coe_inv]
  have hc : (0 : EReal) ≤ (((r + e)⁻¹ : ℝ) : EReal) := by exact_mod_cast inv_nonneg.2 (by linarith)
  unfold total
  rw [sum_mul_of_nonneg _ _ hc (EReal.coe_ne_top _)]
  refine Finset.sum_congr rfl fun n _ => ?_
  rw [mul_comm (weight p s _ n), mul_assoc]

end Segment

end Cert.Pool
-- ==== Proof.Block.lean ====
module

public import proofs.«01_k».proof.Proof.Gen.KernelIdeal.Skeleton
public import proofs.«01_k».proof.Proof.Softmax
public import Idealize.ShloMosaic.Lib.Pointwise

/-!
# What one block computes

The stored values of the kernel's body, each read at an index: the scores of the block's rows, which row belongs to which
segment, the new maximum, the block's weights, and the three carried buffers after the block. The theorem `block_carried`
sets them beside the weighted sums of `Softmax.lean`: if before the block the carried buffers stand for the rows `S`, after
it they stand for `S` and the block's rows.
-/

@[expose] public section

set_option maxRecDepth 16384

noncomputable section

namespace Cert.Pool

open Idealize.ShloMosaic Cert.KernelIdeal Cert.KernelIdeal.Gen

/-- The pattern `0xFF800000` is `−∞`. -/
theorem ofBits_neg_inf : Ideal.ofBits .f32 0xFF800000#32 = ⊥ := by simp [Ideal.ofBits, Ideal.ieee]

/-- The score of a row of features `x`: `∑ a, c a * tanh (∑ d, w a d * x d + b a)`. -/
def score (w : Vec Ideal S256x512 .f32) (b c : Fin 256 → EReal) (x : Fin 512 → EReal) : EReal :=
  ∑ a, c a * Ideal.tanh (∑ d, w (ix2 a d) * x d + b a)

/-- The word `v` names the segment `g`. -/
def names (g : Fin 128) (v : BitVec 32) : Prop := BitVec.ofNat 32 g.val = v

/-- Whether a word names a segment is decided by comparing words. -/
instance (g : Fin 128) (v : BitVec 32) : Decidable (names g v) := inferInstanceAs (Decidable (_ = _))

/-- A word names at most one segment. -/
theorem names_unique {g g' : Fin 128} {v : BitVec 32} (h : names g v) (h' : names g' v) : g' = g := by
  have e := congrArg BitVec.toNat (h'.trans h.symm)
  rw [BitVec.toNat_ofNat, BitVec.toNat_ofNat] at e
  have := g.isLt
  have := g'.isLt
  exact Fin.ext (by omega)

section Payloads

variable (x : Vec Ideal S5000x512 .f32) (wa : Vec Ideal S256x512 .f32) (ba cx : Vec Ideal S256x1 .f32)
  (bt : Vec Ideal S1x1x5000 .i32)

/-- The scores of the block: entry `k` is the score of the block's row `k`. -/
theorem scores_apply (k : Fin 5000) :
    k0_pay6 x wa ba cx (ix2 0 k) = score wa (fun a => ba (ix2 a 0)) (fun a => cx (ix2 a 0)) fun d => x (ix2 k d) := by
  pointwise [k0_pay6, k0_pay5]
  rfl

/-- The membership bit of segment `g` and row `k`: whether the row's word names the segment. -/
theorem member_apply (g : Fin 128) (k : Fin 5000) :
    k0_pay7 (F := Ideal) bt (ix2 g k) = if names g (bt (ix3 0 0 k)) then 1#1 else 0#1 := by
  pointwise [k0_pay7]
  by_cases h : names g (bt (ix3 0 0 k))
  · rw [if_pos h, show BitVec.ofNat 32 g.val = bt (ix3 0 0 k) from h]
    simp [IntOp.cmpi]
  · rw [if_neg h]
    have h' : ¬BitVec.ofNat 32 g.val = bt (ix3 0 0 k) := h
    show BitVec.ofBool (BitVec.ofNat 32 g.val == bt (ix3 0 0 k)) = 0#1
    rw [beq_false_of_ne h']
    rfl

/-- The same as a factor `1` or `0`. -/
theorem onehot_apply (g : Fin 128) (k : Fin 5000) :
    k0_pay8 (F := Ideal) bt (ix2 g k) = if names g (bt (ix3 0 0 k)) then 1 else 0 := by
  pointwise [k0_pay8]
  rw [member_apply]
  split
  · show ((((1#1 : BitVec 1).setWidth 32).toInt : ℝ) : EReal) = 1
    norm_num
  · show ((((0#1 : BitVec 1).setWidth 32).toInt : ℝ) : EReal) = 0
    norm_num

/-- The new maximum of segment `g`: the old one against the block's scores in the segment. -/
theorem newMax_apply (m : Vec Ideal S128x1 .f32) (g : Fin 128) :
    k0_pay9 (F := Ideal) x wa ba cx bt m (ix2 g 0) = max (m (ix2 g 0))
      (best (fun k => names g (bt (ix3 0 0 k)))
        (fun k => score wa (fun a => ba (ix2 a 0)) (fun a => cx (ix2 a 0)) fun d => x (ix2 k d)) Finset.univ) := by
  pointwise [k0_pay9]
  rw [ofBits_neg_inf]
  congr 1
  unfold best
  show Finset.univ.sup _ = _
  refine Finset.sup_congr rfl fun k _ => ?_
  rw [member_apply, scores_apply]
  split <;> rfl

/-- The factor on the carried sums. -/
theorem factor_apply (m m' : Vec Ideal S128x1 .f32) {c : Ideal .f32} (hc : c = ⊥) (g : Fin 128) :
    k0_pay10 (F := Ideal) m m' c (ix2 g 0) = rescale (m (ix2 g 0)) (m' (ix2 g 0)) := by
  pointwise [k0_pay10]
  rw [hc]
  rfl

/-- The weight of the block's row `k` in segment `g`, against the maximum `m'`. -/
theorem weight_apply (m' : Vec Ideal S128x1 .f32) (g : Fin 128) (k : Fin 5000) :
    k0_pay11 (F := Ideal) (k0_pay6 x wa ba cx) (k0_pay8 bt) m' (ix2 g k)
      = weight (fun k => names g (bt (ix3 0 0 k)))
          (fun k => score wa (fun a => ba (ix2 a 0)) (fun a => cx (ix2 a 0)) fun d => x (ix2 k d)) (m' (ix2 g 0)) k := by
  pointwise [k0_pay11]
  rw [ofBits_neg_inf, onehot_apply, scores_apply]
  unfold weight
  by_cases hg : names g (bt (ix3 0 0 k))
  · rw [if_pos hg, if_pos hg, one_mul]
    congr 2
    rw [Finset.sum_eq_single g]
    · rw [onehot_apply, if_pos hg, mul_one]; rfl
    · intro g' _ hne
      rw [onehot_apply, if_neg fun h => hne (names_unique hg h), mul_zero]
    · intro h; exact absurd (Finset.mem_univ g) h
  · rw [if_neg hg, if_neg hg, zero_mul]

/-- The sum of weights after the block, from the one before it. -/
theorem newSum_apply (m m' z : Vec Ideal S128x1 .f32) {c : Ideal .f32} (hc : c = ⊥) (g : Fin 128) :
    k0_pay12 (F := Ideal) (k0_pay6 x wa ba cx) (k0_pay8 bt) m m' c z (ix2 g 0)
      = z (ix2 g 0) * rescale (m (ix2 g 0)) (m' (ix2 g 0))
        + ∑ k, weight (fun k => names g (bt (ix3 0 0 k)))
            (fun k => score wa (fun a => ba (ix2 a 0)) (fun a => cx (ix2 a 0)) fun d => x (ix2 k d)) (m' (ix2 g 0)) k := by
  pointwise [k0_pay12]
  rw [factor_apply m m' hc]
  simp only [weight_apply]

/-- The weighted sum of feature `d` after the block, from the one before it. -/
theorem newAcc_apply (m m' : Vec Ideal S128x1 .f32) (acc : Vec Ideal S128x512 .f32) {c : Ideal .f32} (hc : c = ⊥) (g : Fin 128)
    (d : Fin 512) :
    k0_pay13 (F := Ideal) (k0_pay5 x) (k0_pay6 x wa ba cx) (k0_pay8 bt) m m' c acc (ix2 g d)
      = acc (ix2 g d) * rescale (m (ix2 g 0)) (m' (ix2 g 0))
        + ∑ k, weight (fun k => names g (bt (ix3 0 0 k)))
            (fun k => score wa (fun a => ba (ix2 a 0)) (fun a => cx (ix2 a 0)) fun d => x (ix2 k d)) (m' (ix2 g 0)) k
            * x (ix2 k d) := by
  pointwise [k0_pay13, k0_pay5]
  rw [factor_apply m m' hc]
  simp only [weight_apply]

/-- The maximum is stored as it is. -/
theorem storedMax_apply (m' : Vec Ideal S128x1 .f32) (g : Fin 128) : k0_pay14 (F := Ideal) m' (ix2 g 0) = m' (ix2 g 0) := by
  pointwise [k0_pay14]

/-- Before the first block the maximum is `−∞` … -/
theorem firstMax_apply (g : Fin 128) : k0_pay2 (F := Ideal) (ix2 g 0) = ⊥ := by
  pointwise [k0_pay2]
  exact ofBits_neg_inf

/-- … the sum of weights is `0` … -/
theorem firstSum_apply (g : Fin 128) : k0_pay3 (F := Ideal) (ix2 g 0) = 0 := by
  pointwise [k0_pay3]

/-- … and so are the weighted sums. -/
theorem firstAcc_apply (g : Fin 128) (d : Fin 512) : k0_pay4 (F := Ideal) (ix2 g d) = 0 := by
  pointwise [k0_pay4]

/-- The result: the weighted sums over the sum of weights plus a small constant, projected, plus the bias. -/
theorem result_apply (acc : Vec Ideal S128x512 .f32) (z : Vec Ideal S128x1 .f32) (wo : Vec Ideal S512x512 .f32)
    (bo : Vec Ideal S1x512 .f32) (g : Fin 128) (d : Fin 512) :
    k0_pay1 (F := Ideal) acc z wo bo (ix2 g d)
      = ∑ e, Ideal.div (acc (ix2 g e)) (z (ix2 g 0) + Ideal.ofBits .f32 0x322BCC77#32) * wo (ix2 d e) + bo (ix2 0 d) := by
  pointwise [k0_pay1]

end Payloads

section Carried

/-- All rows: `N × 512` features, a word per row and the score of each row, as functions. The carried maximum `m`, sum `z`
    and weighted sums `acc` stand for the rows `S`. -/
structure Carries (X : Fin 50000 → Fin 512 → EReal) (W : Fin 50000 → BitVec 32) (s : Fin 50000 → EReal)
    (S : Finset (Fin 50000)) (m z : Vec Ideal S128x1 .f32) (acc : Vec Ideal S128x512 .f32) : Prop where
  max_eq : ∀ g : Fin 128, m (ix2 g 0) = best (fun n => names g (W n)) s S
  sum_eq : ∀ g : Fin 128, z (ix2 g 0) = total (fun n => names g (W n)) s S fun _ => 1
  acc_eq : ∀ (g : Fin 128) (d : Fin 512), acc (ix2 g d) = total (fun n => names g (W n)) s S fun n => X n d

variable {X : Fin 50000 → Fin 512 → EReal} {W : Fin 50000 → BitVec 32} {s : Fin 50000 → EReal}

/-- Before the first block the carried buffers stand for no row. -/
theorem carries_empty : Carries X W s ∅ (k0_pay2 (F := Ideal)) (k0_pay3 (F := Ideal)) (k0_pay4 (F := Ideal)) where
  max_eq g := by rw [firstMax_apply]; rfl
  sum_eq g := by rw [firstSum_apply]; rfl
  acc_eq g d := by rw [firstAcc_apply]; rfl

/-- One block: its rows are the rows `e k`, none of them in `S`; the carried buffers stand for `S` before it and for `S` and
    the block's rows after it. -/
theorem block_carried {S : Finset (Fin 50000)} {m z : Vec Ideal S128x1 .f32} {acc : Vec Ideal S128x512 .f32}
    (h : Carries X W s S m z acc) {c : Ideal .f32} (hc : c = ⊥) (e : Fin 5000 ↪ Fin 50000) (hS : Disjoint S (Finset.univ.map e))
    (x : Vec Ideal S5000x512 .f32) (wa : Vec Ideal S256x512 .f32) (ba cx : Vec Ideal S256x1 .f32) (bt : Vec Ideal S1x1x5000 .i32)
    (hx : ∀ k d, x (ix2 k d) = X (e k) d) (hb : ∀ k, bt (ix3 0 0 k) = W (e k))
    (hs : ∀ k, score wa (fun a => ba (ix2 a 0)) (fun a => cx (ix2 a 0)) (X (e k)) = s (e k)) :
    Carries X W s (S ∪ Finset.univ.map e)
      (k0_pay14 (k0_pay9 x wa ba cx bt m))
      (k0_pay12 (k0_pay6 x wa ba cx) (k0_pay8 bt) m (k0_pay9 x wa ba cx bt m) c z)
      (k0_pay13 (k0_pay5 x) (k0_pay6 x wa ba cx) (k0_pay8 bt) m (k0_pay9 x wa ba cx bt m) c acc) := by
  have hsc : (fun k => score wa (fun a => ba (ix2 a 0)) (fun a => cx (ix2 a 0)) fun d => x (ix2 k d)) = fun k => s (e k) :=
    funext fun k => by simp only [hx]; exact hs k
  have hM : ∀ g : Fin 128, k0_pay9 (F := Ideal) x wa ba cx bt m (ix2 g 0)
      = max (best (fun n => names g (W n)) s S) (best (fun n => names g (W n)) s (Finset.univ.map e)) := fun g => by
    rw [newMax_apply, h.max_eq, hsc]
    congr 1
    unfold best
    rw [Finset.sup_map]
    refine Finset.sup_congr rfl fun k _ => ?_
    simp only [hb, Function.comp_apply]
  refine ⟨fun g => ?_, fun g => ?_, fun g d => ?_⟩
  · rw [storedMax_apply, hM, best_union]
  · rw [newSum_apply (hc := hc), hM, h.max_eq, h.sum_eq, hsc, total_union hS, Finset.sum_map]
    congr 1
    refine Finset.sum_congr rfl fun k _ => ?_
    unfold weight
    simp only [hb, mul_one]
  · rw [newAcc_apply (hc := hc), hM, h.max_eq, h.acc_eq, hsc, total_union hS, Finset.sum_map]
    congr 1
    refine Finset.sum_congr rfl fun k _ => ?_
    unfold weight
    simp only [hb, hx]

end Carried

end Cert.Pool
-- ==== Proof.State.lean ====
module

public import proofs.«01_k».proof.Proof.Gen.KernelIdeal.Value
public import Idealize.ShloMosaic.Lib.Pipeline.ValueKit
public import Idealize.ShloMosaic.Lib.Pipeline.ReadBack

/-!
# What the kernel leaves at each grid point

The three carried buffers after a grid point, and the output block after the last one, as the body's stored values over the
point's input blocks and what the point before left.
-/

@[expose] public section

set_option maxRecDepth 16384

noncomputable section

namespace Cert.Pool

open Idealize.ShloMosaic Idealize.ShloMosaic.TcCoe Idealize.SL.Sem Cert.KernelIdeal Cert.KernelIdeal.Gen

/-- The three carried buffers: maximum, sum of weights, weighted sums. -/
abbrev Carried : Type := Vec Ideal S128x1 .f32 × Vec Ideal S128x1 .f32 × Vec Ideal S128x512 .f32

/-- What the body makes of the carried buffers at one point, from the blocks it reads: rows, words, and the attention
    weights, biases and context. -/
def advance (x : Vec Ideal S5000x512 .f32) (bt : Vec Ideal S1x1x5000 .i32) (wa : Vec Ideal S256x512 .f32)
    (ba cx : Vec Ideal S256x1 .f32) (s : Carried) : Carried :=
  (k0_pay14 (k0_pay9 x wa ba cx bt s.1),
   k0_pay12 (k0_pay6 x wa ba cx) (k0_pay8 bt) s.1 (k0_pay9 x wa ba cx bt s.1) (Scalar.ofBits .f32 0xFF800000#32) s.2.1,
   k0_pay13 (k0_pay5 x) (k0_pay6 x wa ba cx) (k0_pay8 bt) s.1 (k0_pay9 x wa ba cx bt s.1) (Scalar.ofBits .f32 0xFF800000#32) s.2.2)

/-- The carried buffers as the first point's reset leaves them. -/
def fresh : Carried := (k0_pay2 (F := Ideal), k0_pay3 (F := Ideal), k0_pay4 (F := Ideal))

variable (m : (ℓ : Loc nD τ sig) → Buf (Elt Ideal) ℓ) (c : Dev nD)

/-- The first point: the reset, then one advance. -/
theorem carried_first (t : Fin cfg0.N) (h0 : t.val % 10 = 0) (h1 : ¬t.val % 10 = 9) :
    (outsAt0 m c t.val t.isLt).2
      = advance (iblk m c 0 t) (iblk m c 1 t) (iblk m c 2 t) (iblk m c 3 t) (iblk m c 4 t) fresh := by
  rw [outsAt0_A m c t h0 h1]
  unfold advance fresh
  refine Prod.ext ?_ (Prod.ext ?_ ?_) <;> dsimp only
  · frame_out
  · frame_out
  · frame_out

/-- A later point: one advance over what the point before left. -/
theorem carried_next (t : Fin cfg0.N) (h0 : ¬t.val % 10 = 0) (h1 : ¬t.val % 10 = 9) :
    (outsAt0 m c t.val t.isLt).2
      = advance (iblk m c 0 t) (iblk m c 1 t) (iblk m c 2 t) (iblk m c 3 t) (iblk m c 4 t)
          (outsAt0 m c (t.val - 1) (Nat.lt_of_le_of_lt (Nat.sub_le _ _) t.isLt)).2 := by
  rw [outsAt0_B m c t h0 h1]
  unfold advance
  refine Prod.ext ?_ (Prod.ext ?_ ?_) <;> dsimp only
  · frame_out
    simp only [read_unread_whole]
  · frame_out
    simp only [read_unread_whole]
  · frame_out
    simp only [read_unread_whole]

/-- The last point's output block: the result stored from the carried buffers after one more advance. -/
theorem output_last (t : Fin cfg0.N) (h0 : ¬t.val % 10 = 0) (h1 : t.val % 10 = 9) :
    (outsAt0 m c t.val t.isLt).1
      = k0_pay1 (advance (iblk m c 0 t) (iblk m c 1 t) (iblk m c 2 t) (iblk m c 3 t) (iblk m c 4 t)
            (outsAt0 m c (t.val - 1) (Nat.lt_of_le_of_lt (Nat.sub_le _ _) t.isLt)).2).2.2
          (advance (iblk m c 0 t) (iblk m c 1 t) (iblk m c 2 t) (iblk m c 3 t) (iblk m c 4 t)
            (outsAt0 m c (t.val - 1) (Nat.lt_of_le_of_lt (Nat.sub_le _ _) t.isLt)).2).2.1
          (iblk m c 5 t) (iblk m c 6 t) := by
  rw [outsAt0_C m c t h0 h1]
  unfold advance
  dsimp only
  frame_out
  simp only [read_unread_whole]

end Cert.Pool
-- ==== Proof.Entry.lean ====
module

public import proofs.«01_k».proof.Proof.Gen.KernelIdeal.Value
public import Idealize.ShloMosaic.Lib.Pipeline.ValueKit
public import Idealize.ShloMosaic.Lib.Pointwise

/-!
# The blocks the kernel reads, as entries of its arguments

Grid point `t` reads rows `5000 t … 5000 t + 4999` and their words; every other operand is read whole at every point.
-/

@[expose] public section

set_option maxRecDepth 16384

noncomputable section

namespace Cert.Pool

open Idealize.ShloMosaic Idealize.ShloMosaic.TcCoe Idealize.SL.Sem Cert.KernelIdeal Cert.KernelIdeal.Gen

/-- The block each input window reads at each grid point. -/
theorem block_index : ∀ t : Fin cfg0.N,
    win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] := by
  decide +kernel

variable (m : (ℓ : Loc nD τ sig) → Buf (Elt Ideal) ℓ) (c : Dev nD)

/-- Row `k` of the block of point `t` is row `5000 t + k` of `x`. -/
theorem rows_block (t : Fin cfg0.N) (k : Fin 5000) (d : Fin 512) (n : Fin 50000) (hn : n.val = 5000 * t.val + k.val) :
    iblk m c 0 t (ix2 k d) = m ((c : Thread nD τ).loc main_arg0) (ix2 n d) := by
  blk_ext [iblk, V, block_index t]

/-- Word `k` of the block of point `t` is word `5000 t + k` of `batch`. -/
theorem words_block (t : Fin cfg0.N) (k : Fin 5000) (n : Fin 50000) (hn : n.val = 5000 * t.val + k.val) :
    iblk m c 1 t (ix3 0 0 k) = m ((c : Thread nD τ).loc main_arg1) (ix1 n) := by
  blk_ext! [iblk, V, block_index t]

/-- The attention matrix is read whole. -/
theorem attention_block (t : Fin cfg0.N) : iblk m c 2 t = m ((c : Thread nD τ).loc main_arg2) := by
  funext i
  rw [← ix2_eta i]
  blk_ext [iblk, V, block_index t]

/-- The attention bias is read whole, as a column. -/
theorem bias_block (t : Fin cfg0.N) (a : Fin 256) :
    iblk m c 3 t (ix2 a 0) = m ((c : Thread nD τ).loc main_arg3) (ix1 a) := by
  blk_ext! [iblk, V, block_index t]

/-- The context is read whole, as a column. -/
theorem context_block (t : Fin cfg0.N) (a : Fin 256) :
    iblk m c 4 t (ix2 a 0) = m ((c : Thread nD τ).loc main_arg4) (ix1 a) := by
  blk_ext! [iblk, V, block_index t]

/-- The output matrix is read whole. -/
theorem out_block (t : Fin cfg0.N) (d e : Fin 512) :
    iblk m c 5 t (ix2 d e) = m ((c : Thread nD τ).loc main_arg5) (ix2 d e) := by
  blk_ext [iblk, V, block_index t]

/-- The output bias is read whole, as a row. -/
theorem outBias_block (t : Fin cfg0.N) (d : Fin 512) :
    iblk m c 6 t (ix2 0 d) = m ((c : Thread nD τ).loc main_arg6) (ix1 d) := by
  blk_ext! [iblk, V, block_index t]

end Cert.Pool
-- ==== Proof.Sweep.lean ====
module

public import proofs.«01_k».proof.Proof.Block
public import proofs.«01_k».proof.Proof.State
public import proofs.«01_k».proof.Proof.Entry

/-!
# The kernel's result

After grid point `n` the carried buffers stand for the rows below `5000 (n + 1)` (`carried_rows`, by induction over the
points); the last point stores from them the result `kernel_value` states entry by entry.
-/

@[expose] public section

set_option maxRecDepth 16384

noncomputable section

namespace Cert.Pool

open Idealize.ShloMosaic Idealize.ShloMosaic.TcCoe Idealize.SL.Sem Cert.KernelIdeal Cert.KernelIdeal.Gen Cert.KernelIdeal.Value

/-- The rows below `b`. -/
def below (b : ℕ) : Finset (Fin 50000) := Finset.univ.filter fun n => n.val < b

/-- The rows of the block of point `t`. -/
def blockRow (t : Fin cfg0.N) : Fin 5000 ↪ Fin 50000 where
  toFun k := ⟨5000 * t.val + k.val, by have h : t.val < 10 := lt_of_lt_of_eq t.isLt (show cfg0.N = 10 from N_0); omega⟩
  inj' k k' h := by
    have h := congrArg Fin.val h
    dsimp only at h
    exact Fin.ext (by omega)

/-- Row `k` of block `t` is row `5000 t + k`. -/
theorem blockRow_val (t : Fin cfg0.N) (k : Fin 5000) : (blockRow t k).val = 5000 * t.val + k.val := rfl

/-- No row is below row `0`. -/
theorem below_zero : below 0 = ∅ := by simp [below]

/-- Every row is below row `50000`. -/
theorem below_all : below 50000 = Finset.univ := by
  simp [below]

/-- The rows below a block's first are none of the block's. -/
theorem below_disjoint (t : Fin cfg0.N) : Disjoint (below (5000 * t.val)) (Finset.univ.map (blockRow t)) := by
  rw [Finset.disjoint_left]
  intro n hn hn'
  obtain ⟨k, -, rfl⟩ := Finset.mem_map.1 hn'
  have h := (Finset.mem_filter.1 hn).2
  rw [blockRow_val] at h
  omega

/-- With the block's own they are the rows below the next block's first. -/
theorem below_succ (t : Fin cfg0.N) :
    below (5000 * t.val) ∪ Finset.univ.map (blockRow t) = below (5000 * (t.val + 1)) := by
  ext n
  simp only [below, Finset.mem_union, Finset.mem_filter, Finset.mem_univ, true_and, Finset.mem_map]
  constructor
  · rintro (h | ⟨k, rfl⟩)
    · omega
    · rw [blockRow_val]; omega
  · intro h
    by_cases h' : n.val < 5000 * t.val
    · exact Or.inl h'
    · refine Or.inr ⟨⟨n.val - 5000 * t.val, by omega⟩, Fin.ext ?_⟩
      rw [blockRow_val]; dsimp only
      omega

variable (m : (ℓ : Loc nD τ sig) → Buf (Elt Ideal) ℓ) (c : Dev nD)

/-- The rows of `x`. -/
def rows (n : Fin 50000) (d : Fin 512) : EReal := m ((c : Thread nD τ).loc main_arg0) (ix2 n d)

/-- The words of `batch`. -/
def words (n : Fin 50000) : BitVec 32 := m ((c : Thread nD τ).loc main_arg1) (ix1 n)

/-- The attention scores. -/
def scores (n : Fin 50000) : EReal :=
  score (m ((c : Thread nD τ).loc main_arg2)) (fun a => m ((c : Thread nD τ).loc main_arg3) (ix1 a))
    (fun a => m ((c : Thread nD τ).loc main_arg4) (ix1 a)) (rows m c n)

/-- What stands for the rows before a point stands, advanced, for those up to its end. -/
theorem advance_carries (t : Fin cfg0.N) {s : Carried}
    (h : Carries (rows m c) (words m c) (scores m c) (below (5000 * t.val)) s.1 s.2.1 s.2.2) :
    let s' := advance (iblk m c 0 t) (iblk m c 1 t) (iblk m c 2 t) (iblk m c 3 t) (iblk m c 4 t) s
    Carries (rows m c) (words m c) (scores m c) (below (5000 * (t.val + 1))) s'.1 s'.2.1 s'.2.2 := by
  rw [← below_succ t]
  refine block_carried h ofBits_neg_inf (blockRow t) (below_disjoint t) _ _ _ _ _ (fun k d => ?_) (fun k => ?_) (fun k => ?_)
  · exact rows_block m c t k d (blockRow t k) rfl
  · exact words_block m c t k (blockRow t k) rfl
  · unfold scores
    rw [attention_block m c t]
    simp only [bias_block m c t, context_block m c t]

/-- After point `n`, short of the last, the carried buffers stand for the rows below `5000 (n + 1)`. -/
theorem carried_rows : ∀ (n : ℕ) (hn : n < cfg0.N), n < 9 →
    Carries (rows m c) (words m c) (scores m c) (below (5000 * (n + 1)))
      (outsAt0 m c n hn).2.1 (outsAt0 m c n hn).2.2.1 (outsAt0 m c n hn).2.2.2
  | 0, hn, _ => by
    have e := carried_first m c ⟨0, hn⟩ (by simp) (by simp)
    dsimp only at e
    rw [e]
    refine advance_carries m c ⟨0, hn⟩ (s := fresh) ?_
    rw [mul_zero, below_zero]
    exact carries_empty
  | n + 1, hn, h9 => by
    have e := carried_next m c ⟨n + 1, hn⟩ (by show ¬(n + 1) % 10 = 0; omega) (by show ¬(n + 1) % 10 = 9; omega)
    dsimp only at e
    rw [e]
    exact advance_carries m c ⟨n + 1, hn⟩ (carried_rows n _ (by omega))

/-- The constant under the division is a positive real number. -/
theorem eps_pos : ∃ e : ℝ, 0 < e ∧ Ideal.ofBits .f32 0x322BCC77#32 = (e : EReal) := by
  refine ⟨11258999 * (2 : ℝ) ^ (-50 : ℤ), by positivity, ?_⟩
  simp [Ideal.ofBits, Ideal.ieee]

/-- The attention weight of row `n` in segment `g`: its exponential over the sum of the segment's, plus the constant. -/
def attention (W : Fin 50000 → BitVec 32) (s : Fin 50000 → EReal) (g : Fin 128) (n : Fin 50000) : EReal :=
  Ideal.div (weight (fun n => names g (W n)) s (best (fun n => names g (W n)) s Finset.univ) n)
    (total (fun n => names g (W n)) s Finset.univ (fun _ => 1) + Ideal.ofBits .f32 0x322BCC77#32)

/-- **The kernel's result**: entry `(g, d)` is row `g` of the pooled rows through the output matrix, plus the output bias. -/
theorem kernel_value (g : Fin 128) (d : Fin 512) :
    G7 m c (ix2 g d)
      = ∑ e, (∑ n, rows m c n e * attention (words m c) (scores m c) g n) * m ((c : Thread nD τ).loc main_arg5) (ix2 d e)
        + m ((c : Thread nD τ).loc main_arg6) (ix1 d) := by
  have hN : 9 < cfg0.N := lt_of_lt_of_eq (by norm_num) (show 10 = cfg0.N from N_0.symm)
  have hG : G7 m c = (outsAt0 m c 9 hN).1 := by
    rw [G7_last, outsAt0_sweep]
  have e := output_last m c ⟨9, hN⟩ (by simp) (by simp)
  dsimp only at e
  have h := advance_carries m c ⟨9, hN⟩ (carried_rows m c 8 (by omega) (by omega))
  have hall : below (5000 * (9 + 1)) = Finset.univ := below_all
  dsimp only at h
  rw [hall] at h
  obtain ⟨ε, hε, hε'⟩ := eps_pos
  rw [hG, e, result_apply, outBias_block]
  refine congrArg (· + _) (Finset.sum_congr rfl fun a _ => ?_)
  rw [out_block, h.acc_eq, h.sum_eq, hε', div_total _ _ hε]
  unfold attention
  rw [hε']

end Cert.Pool
-- ==== Proof.Lookup.lean ====
module

public import proofs.«01_k».proof.Proof.Gen.ReferenceIdeal
public import proofs.«01_k».proof.Proof.Block
public import Idealize.ShloMosaic.Lib.Routing.OpsPair

/-!
# Segment sums and lookups of the reference

A segment sum of 50000 terms is, at segment `g`, the sum over the rows whose word names `g`; a lookup at the word of a row
naming `g` is the table's entry `g`.
-/

@[expose] public section

set_option maxRecDepth 16384

noncomputable section

namespace Cert.Pool

open Idealize.ShloMosaic Idealize.SL.Sem Cert.ReferenceIdeal Cert.ReferenceIdeal.Gen

/-- A word names segment `g` exactly when its signed value is `g`. -/
theorem names_iff_toInt (g : Fin 128) (v : BitVec 32) : v.toInt = (g.val : Int) ↔ names g v := by
  have hg : (BitVec.ofNat 32 g.val).toInt = (g.val : Int) := by
    have := g.isLt
    rw [BitVec.toInt_eq_toNat_of_lt] <;> rw [BitVec.toNat_ofNat] <;> omega
  unfold names
  constructor
  · intro h
    exact BitVec.eq_of_toInt_eq (hg.trans h.symm)
  · rintro rfl
    exact hg

variable (idx : IVec S50000x1 32)

/-- The start of term `n` of a vector is its word, read signed. -/
theorem start_vector (n : Fin 50000) :
    scatter_S128_S50000x1_S50000_n_0_0_1.start (ix1 n) idx 0 = (idx (ix2 n 0)).toInt := by
  refine (dif_pos (List.mem_singleton.mpr rfl)).trans (congrArg (fun i => (idx i).toInt) ?_)
  funext b
  match b with
  | ⟨0, _⟩ => rfl
  | ⟨1, _⟩ => rfl

/-- A vector's term has no window coordinate. -/
theorem window_vector (n : Fin 50000) : scatter_S128_S50000x1_S50000_n_0_0_1.window (ix1 n) 0 = 0 := rfl

/-- Term `n` of the segment sum of a vector lands at the segment its word names. -/
theorem lands_vector (n : Fin 50000) (g : Fin 128) :
    scatter_S128_S50000x1_S50000_n_0_0_1.resultIdx? (ix1 n) idx = some (ix1 g) ↔ names g (idx (ix2 n 0)) := by
  rw [Routing.resultIdx?_eq_some, ← names_iff_toInt]
  constructor
  · intro h
    have := h 0
    rw [start_vector, window_vector] at this
    simpa using this
  · intro h a
    obtain rfl : a = 0 := Subsingleton.elim _ _
    rw [start_vector, window_vector]
    simpa using h

/-- The start of term `(n, d)` of a matrix is row `n`'s word, read signed. -/
theorem start_matrix (n : Fin 50000) (d : Fin 512) :
    scatter_S128x512_S50000x1_S50000x512_1_0_0_1.start (ix2 n d) idx 0 = (idx (ix2 n 0)).toInt := by
  refine (dif_pos (List.mem_singleton.mpr rfl)).trans (congrArg (fun i => (idx i).toInt) ?_)
  funext b
  match b with
  | ⟨0, _⟩ => rfl
  | ⟨1, _⟩ => rfl

/-- Term `(n, d)` of the segment sum of a matrix lands in column `d` of the segment its word names. -/
theorem lands_matrix (n : Fin 50000) (d : Fin 512) (g : Fin 128) (e : Fin 512) :
    scatter_S128x512_S50000x1_S50000x512_1_0_0_1.resultIdx? (ix2 n d) idx = some (ix2 g e)
      ↔ names g (idx (ix2 n 0)) ∧ d = e := by
  rw [Routing.resultIdx?_eq_some, ← names_iff_toInt]
  have h0 := start_matrix idx n d
  have w0 : scatter_S128x512_S50000x1_S50000x512_1_0_0_1.window (ix2 n d) 0 = 0 := rfl
  have h1 : scatter_S128x512_S50000x1_S50000x512_1_0_0_1.start (ix2 n d) idx 1 = 0 := rfl
  have w1 : scatter_S128x512_S50000x1_S50000x512_1_0_0_1.window (ix2 n d) 1 = d.val := rfl
  constructor
  · intro h
    have a0 := h 0
    have a1 := h 1
    rw [h0, w0] at a0
    rw [h1, w1] at a1
    refine ⟨by simpa using a0, Fin.ext ?_⟩
    have : ((d.val : Int)) = (e.val : Int) := by simpa using a1
    exact_mod_cast this
  · rintro ⟨h, rfl⟩ a
    match a with
    | ⟨0, _⟩ =>
      show scatter_S128x512_S50000x1_S50000x512_1_0_0_1.start (ix2 n d) idx 0 + _ = _
      rw [h0]
      show _ + ((scatter_S128x512_S50000x1_S50000x512_1_0_0_1.window (ix2 n d) 0 : ℕ) : Int) = _
      rw [w0]
      simpa using h
    | ⟨1, _⟩ =>
      show scatter_S128x512_S50000x1_S50000x512_1_0_0_1.start (ix2 n d) idx 1 + _ = _
      rw [h1]
      show _ + ((scatter_S128x512_S50000x1_S50000x512_1_0_0_1.window (ix2 n d) 1 : ℕ) : Int) = _
      rw [w1]
      simp

/-- The segment sum of a vector `u`, on top of `x`. -/
theorem segmentSum_vector (x : Vec Ideal S128 .f32) (u : Vec Ideal S50000 .f32) (g : Fin 128) :
    Host.scatterAdd (F := Ideal) (φ := .f32) scatter_S128_S50000x1_S50000_n_0_0_1 x idx u (ix1 g)
      = x (ix1 g) + ∑ n, if names g (idx (ix2 n 0)) then u (ix1 n) else 0 := by
  refine congrArg (x (ix1 g) + ·) ?_
  refine (Finset.sum_filter _ _).trans ((sum_idx1 _).trans (Finset.sum_congr rfl fun n _ => ?_))
  simp only [lands_vector]

/-- The segment sum of a matrix `u`, on top of `x`, column by column. -/
theorem segmentSum_matrix (x : Vec Ideal S128x512 .f32) (u : Vec Ideal S50000x512 .f32) (g : Fin 128) (e : Fin 512) :
    Host.scatterAdd (F := Ideal) (φ := .f32) scatter_S128x512_S50000x1_S50000x512_1_0_0_1 x idx u (ix2 g e)
      = x (ix2 g e) + ∑ n, if names g (idx (ix2 n 0)) then u (ix2 n e) else 0 := by
  refine congrArg (x (ix2 g e) + ·) ?_
  refine (Finset.sum_filter _ _).trans ((sum_idx2 _).trans (Finset.sum_congr rfl fun n _ => ?_))
  simp only [lands_matrix]
  by_cases h : names g (idx (ix2 n 0))
  · simp [h]
  · simp [h]

/-- The lookup of row `n` in the table `x`, at the row's word naming `g`. -/
theorem lookup_member (x : Vec Ideal S128 .f32) (n : Fin 50000) (g : Fin 128) (h : names g (idx (ix2 n 0))) :
    Host.gather gather_S128_S50000x1_S50000_n_0_n_n_0_1_1 x idx (ix1 n) = x (ix1 g) := by
  refine congrArg x (funext fun a => ?_)
  obtain rfl : a = 0 := Subsingleton.elim _ _
  refine Fin.ext ?_
  show gather_S128_S50000x1_S50000_n_0_n_n_0_1_1.start (ix1 n) idx 0
    + gather_S128_S50000x1_S50000_n_0_n_n_0_1_1.batchCoord (ix1 n) 0
    + gather_S128_S50000x1_S50000_n_0_n_n_0_1_1.offCoord (ix1 n) 0 = g.val
  have hb : gather_S128_S50000x1_S50000_n_0_n_n_0_1_1.batchCoord (ix1 n) 0 = 0 := rfl
  have ho : gather_S128_S50000x1_S50000_n_0_n_n_0_1_1.offCoord (ix1 n) 0 = 0 := rfl
  have hs : gather_S128_S50000x1_S50000_n_0_n_n_0_1_1.start (ix1 n) idx 0
      = min (idx (ix2 n 0)).toInt.toNat 127 := by
    refine (dif_pos (List.mem_singleton.mpr rfl)).trans (congrArg (fun i => min (idx i).toInt.toNat 127) ?_)
    funext b
    match b with
    | ⟨0, _⟩ => rfl
    | ⟨1, _⟩ => rfl
  rw [hb, ho, hs, (names_iff_toInt _ _).2 h]
  have := g.isLt
  omega

end Cert.Pool
-- ==== Proof.Reference.lean ====
module

public import proofs.«01_k».proof.Proof.Gen.ReferenceIdeal.Run
public import proofs.«01_k».proof.Proof.Lookup
public import proofs.«01_k».proof.Proof.Softmax
public import Idealize.ShloMosaic.Lib.Pointwise
public import Idealize.ShloMosaic.Lib.IdealHost

/-!
# The reference's result

The reference in stages, each read at an index: the scores, each segment's largest score, the exponentials, their segment
sums, the attention weights, the pooled rows, and the result.
-/

@[expose] public section

set_option maxRecDepth 16384

noncomputable section

namespace Cert.Pool

open Idealize.ShloMosaic Idealize.ShloMosaic.TcCoe Idealize.SL.Sem Cert.ReferenceIdeal Cert.ReferenceIdeal.Gen

variable (x : FVec Ideal S50000x512 .f32) (bt : IVec S50000 32) (w : FVec Ideal S256x512 .f32) (b cx : FVec Ideal S256 .f32)
  (wo : FVec Ideal S512x512 .f32) (bo : FVec Ideal S512 .f32) (s : FVec Ideal S50000 .f32) (mx : FVec Ideal S128 .f32)

/-- The attention scores. -/
def refScores : FVec Ideal S50000 .f32 :=
  Host.dotGeneral (F := Ideal) (φ₁ := .f32) (φ₂ := .f32) dot_S50000x256_S256_S50000_1_0_0_n_n_n none
    (Host.tanh (addf (Host.dotGeneral (F := Ideal) (φ₁ := .f32) (φ₂ := .f32) dot_S50000x512_S512x256_S50000x256_1_0_0_1_n_n none x
      (transpose S512x256 [1, 0] w transposes_S256x512_S512x256_1_0))
      (broadcastInDim S50000x256 ![0, 1] bcast_S1x256_S50000x256_0_1 (broadcastInDim S1x256 ![1] bcast_S256_S1x256_1 b)))) cx

/-- Each segment's largest score. -/
def refMax : FVec Ideal S128 .f32 :=
  Host.reduce (FloatOps.maximumf (F := Ideal) (φ := .f32))
    (select (cmpi .eq (broadcastInDim S128x50000 ![0, 1] bcast_S1x50000_S128x50000_0_1 (broadcastInDim S1x50000 ![1] bcast_S50000_S1x50000_1 bt))
        (broadcastInDim S128x50000 ![0, 1] bcast_S128x1_S128x50000_0_1 (broadcastInDim S128x1 ![0] bcast_S128_S128x1_0 (iotaInDim S128 32 0))))
      (broadcastInDim S128x50000 ![0, 1] bcast_S1x50000_S128x50000_0_1 (broadcastInDim S1x50000 ![1] bcast_S50000_S1x50000_1 s))
      (broadcastInDim S128x50000 ![] bcast_S_S128x50000 (id (constant (F := Ideal) S_ .f32 0xFF800000#32))))
    (constant (F := Ideal) S_ .f32 0xFF800000#32) reducesTo_S128x50000_S128_d1 h_S_

/-- The words, as a column. -/
def refWords : IVec S50000x1 32 := broadcastInDim S50000x1 ![0] bcast_S50000_S50000x1_0 bt

/-- The words lookups are made with. -/
def refWrapped : IVec S50000x1 32 :=
  broadcastInDim S50000x1 ![0] bcast_S50000_S50000x1_0
    (select (cmpi .slt bt (broadcastInDim S50000 ![] bcast_S_S50000 (constantI S_ 32 0#32)))
      (addi bt (broadcastInDim S50000 ![] bcast_S_S50000 (constantI S_ 32 128#32))) bt)

/-- The exponential of each score less its segment's largest. -/
def refExp : FVec Ideal S50000 .f32 :=
  Host.exp (subf s (Host.gather gather_S128_S50000x1_S50000_n_0_n_n_0_1_1 mx (refWrapped bt)))

/-- Each segment's sum of exponentials. -/
def refSum (u : FVec Ideal S50000 .f32) : FVec Ideal S128 .f32 :=
  Host.scatterAdd (F := Ideal) (φ := .f32) scatter_S128_S50000x1_S50000_n_0_0_1
    (broadcastInDim S128 ![] bcast_S_S128 (constant (F := Ideal) S_ .f32 0x00000000#32)) (refWords bt) u

/-- The attention weights. -/
def refWeight (u : FVec Ideal S50000 .f32) (z : FVec Ideal S128 .f32) : FVec Ideal S50000 .f32 :=
  Host.divf u (addf (Host.gather gather_S128_S50000x1_S50000_n_0_n_n_0_1_1 z (refWrapped bt))
    (broadcastInDim S50000 ![] bcast_S_S50000 (constant (F := Ideal) S_ .f32 0x322BCC77#32)))

/-- The rows of each segment, weighted and summed. -/
def refPooled (a : FVec Ideal S50000 .f32) : FVec Ideal S128x512 .f32 :=
  Host.scatterAdd (F := Ideal) (φ := .f32) scatter_S128x512_S50000x1_S50000x512_1_0_0_1
    (broadcastInDim S128x512 ![] bcast_S_S128x512 (constant (F := Ideal) S_ .f32 0x00000000#32)) (refWords bt)
    (mulf x (broadcastInDim S50000x512 ![0, 1] bcast_S50000x1_S50000x512_0_1 (broadcastInDim S50000x1 ![0] bcast_S50000_S50000x1_0 a)))

/-- The pooled rows through the output matrix, plus the output bias. -/
def refOut (p : FVec Ideal S128x512 .f32) : FVec Ideal S128x512 .f32 :=
  addf (Host.dotGeneral (F := Ideal) (φ₁ := .f32) (φ₂ := .f32) dot_S128x512_S512x512_S128x512_1_0_0_1_n_n none p
      (transpose S512x512 [1, 0] wo transposes_S512x512_S512x512_1_0))
    (broadcastInDim S128x512 ![0, 1] bcast_S1x512_S128x512_0_1 (broadcastInDim S1x512 ![1] bcast_S512_S1x512_1 bo))

/-- The stages put together. -/
def refAll : FVec Ideal S128x512 .f32 :=
  let s := refScores x w b cx
  let u := refExp bt s (refMax bt s)
  refOut wo bo (refPooled x bt (refWeight bt u (refSum bt u)))

/-- The reference's result is the stages put together. -/
theorem reference_eq (m : (ℓ : Loc nD τ sig) → Buf (Elt Ideal) ℓ) (c : Dev nD) :
    Value.res_out0 m c
      = refAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := rfl

/-- The score of row `n`. -/
theorem refScores_apply (n : Fin 50000) :
    refScores x w b cx (ix1 n) = score w (fun a => b (ix1 a)) (fun a => cx (ix1 a)) fun d => x (ix2 n d) := by
  pointwise [refScores]
  unfold score
  refine Finset.sum_congr rfl fun a _ => ?_
  rw [mul_comm]
  refine congrArg (fun z => cx (ix1 a) * Ideal.tanh (z + b (ix1 a))) (Finset.sum_congr rfl fun d _ => mul_comm _ _)

/-- Entry `n` of the column of words is word `n`. -/
theorem refWords_apply (n : Fin 50000) : refWords bt (ix2 n 0) = bt (ix1 n) := by
  pointwise [refWords]

/-- A word naming a segment is looked up as it is. -/
theorem refWrapped_member (n : Fin 50000) {g : Fin 128} (h : names g (bt (ix1 n))) : names g (refWrapped bt (ix2 n 0)) := by
  have e : refWrapped bt (ix2 n 0) = bt (ix1 n) := by
    pointwise [refWrapped]
    have e : IntOp.cmpi .slt (bt (ix1 n)) 0#32 = 0#1 := by
      show BitVec.ofBool (decide ((bt (ix1 n)).toInt < (0#32 : BitVec 32).toInt)) = 0#1
      rw [(names_iff_toInt _ _).2 h, decide_eq_false (by simp)]
      rfl
    rw [e]
    rfl
  rwa [e]

/-- The exponential of a row whose word names `g` is taken against segment `g`'s largest score. -/
theorem refExp_member (n : Fin 50000) {g : Fin 128} (h : names g (bt (ix1 n))) :
    refExp bt s mx (ix1 n) = Ideal.exp (s (ix1 n) - mx (ix1 g)) :=
  congrArg (fun z => Ideal.exp (s (ix1 n) - z)) (lookup_member _ mx n g (refWrapped_member bt n h))

/-- The attention weight of a row whose word names `g` is its exponential over segment `g`'s sum plus the constant. -/
theorem refWeight_member (u : FVec Ideal S50000 .f32) (z : FVec Ideal S128 .f32) (n : Fin 50000) {g : Fin 128}
    (h : names g (bt (ix1 n))) :
    refWeight bt u z (ix1 n) = Ideal.div (u (ix1 n)) (z (ix1 g) + Ideal.ofBits .f32 0x322BCC77#32) :=
  congrArg (fun y => Ideal.div (u (ix1 n)) (y + Ideal.ofBits .f32 0x322BCC77#32))
    (lookup_member _ z n g (refWrapped_member bt n h))

/-- A segment's largest score is the largest over the rows whose words name it. -/
theorem refMax_apply (g : Fin 128) :
    refMax bt s (ix1 g) = best (fun n => names g (bt (ix1 n))) (fun n => s (ix1 n)) Finset.univ := by
  pointwise [refMax]
  rw [ofBits_neg_inf]
  refine Finset.sup_congr rfl fun n _ => ?_
  by_cases h : names g (bt (ix1 n))
  · rw [if_pos h, show bt (ix1 n) = BitVec.ofNat 32 g.val from h.symm]
    show Scalar.select (BitVec.ofBool (BitVec.ofNat 32 g.val == BitVec.ofNat 32 g.val)) _ _ = _
    rw [beq_self_eq_true]
    rfl
  · rw [if_neg h]
    show Scalar.select (BitVec.ofBool (bt (ix1 n) == BitVec.ofNat 32 g.val)) _ _ = _
    rw [beq_false_of_ne (fun e => h e.symm)]
    exact ofBits_neg_inf

/-- A segment sum is the sum over the rows whose words name the segment. -/
theorem refSum_apply (u : FVec Ideal S50000 .f32) (g : Fin 128) :
    refSum bt u (ix1 g) = ∑ n, if names g (bt (ix1 n)) then u (ix1 n) else 0 := by
  unfold refSum
  rw [segmentSum_vector]
  simp only [refWords_apply]
  pointwise

/-- A segment's pooled row is the weighted sum of the rows whose words name it. -/
theorem refPooled_apply (a : FVec Ideal S50000 .f32) (g : Fin 128) (d : Fin 512) :
    refPooled x bt a (ix2 g d) = ∑ n, if names g (bt (ix1 n)) then x (ix2 n d) * a (ix1 n) else 0 := by
  unfold refPooled
  rw [segmentSum_matrix]
  simp only [refWords_apply]
  pointwise

/-- The result's entries, from the pooled rows. -/
theorem refOut_apply (p : FVec Ideal S128x512 .f32) (g : Fin 128) (d : Fin 512) :
    refOut wo bo p (ix2 g d) = ∑ e, p (ix2 g e) * wo (ix2 d e) + bo (ix1 d) := by
  pointwise [refOut]

end Cert.Pool
-- ==== Proof.Equation.lean ====
module

public import proofs.«01_k».proof.Proof.Sweep
public import proofs.«01_k».proof.Proof.Reference

/-!
# The kernel's result is the reference's

Row by row the reference's weights are those the kernel's result is written with: a row outside the segment has weight `0`,
and a row of it has the exponential against the segment's largest score over the segment's sum of exponentials plus the
constant.
-/

@[expose] public section

set_option maxRecDepth 16384

noncomputable section

namespace Cert.Pool

open Idealize.ShloMosaic Idealize.ShloMosaic.TcCoe Idealize.SL.Sem

section Stages

variable (bt : IVec Cert.ReferenceIdeal.S50000 32) (s : FVec Ideal Cert.ReferenceIdeal.S50000 .f32)

/-- The reference's sum of exponentials of a segment is the sum of the weights. -/
theorem refSum_total (g : Fin 128) :
    refSum bt (refExp bt s (refMax bt s)) (ix1 g)
      = total (fun n => names g (bt (ix1 n))) (fun n => s (ix1 n)) Finset.univ fun _ => 1 := by
  rw [refSum_apply]
  unfold total
  refine Finset.sum_congr rfl fun n _ => ?_
  rw [mul_one]
  unfold weight
  by_cases h : names g (bt (ix1 n))
  · rw [if_pos h, if_pos h, refExp_member bt s _ n h, refMax_apply]
    exact (exp_sub_safe (le_best (p := fun n => names g (bt (ix1 n))) (s := fun n => s (ix1 n)) (Finset.mem_univ n) h)).symm
  · rw [if_neg h, if_neg h]

/-- The segment's terms of the reference are the rows times the attention weights, over all rows. -/
theorem refTerm (y : EReal) (g : Fin 128) (n : Fin 50000) :
    (if names g (bt (ix1 n)) then
        y * refWeight bt (refExp bt s (refMax bt s)) (refSum bt (refExp bt s (refMax bt s))) (ix1 n) else 0)
      = y * attention (fun n => bt (ix1 n)) (fun n => s (ix1 n)) g n := by
  unfold attention weight
  by_cases h : names g (bt (ix1 n))
  · rw [if_pos h, if_pos h, refWeight_member bt _ _ n h, refSum_total, refExp_member bt s _ n h, refMax_apply,
      exp_sub_safe (le_best (p := fun n => names g (bt (ix1 n))) (s := fun n => s (ix1 n)) (Finset.mem_univ n) h)]
  · rw [if_neg h, if_neg h]
    obtain ⟨r, hr, hr'⟩ := total_one_real (p := fun n => names g (bt (ix1 n))) (s := fun n => s (ix1 n)) Finset.univ
    obtain ⟨e, he, he'⟩ := eps_pos
    rw [hr', he', ← EReal.coe_add, Ideal.zero_div, mul_zero]
    exact_mod_cast (by linarith : (0 : ℝ) < r + e).ne'

/-- The reference's result, entry by entry, in the attention weights. -/
theorem refAll_apply (x : FVec Ideal Cert.ReferenceIdeal.S50000x512 .f32) (w : FVec Ideal Cert.ReferenceIdeal.S256x512 .f32)
    (b cx : FVec Ideal Cert.ReferenceIdeal.S256 .f32) (wo : FVec Ideal Cert.ReferenceIdeal.S512x512 .f32)
    (bo : FVec Ideal Cert.ReferenceIdeal.S512 .f32) (g : Fin 128) (d : Fin 512) :
    refAll x bt w b cx wo bo (ix2 g d)
      = ∑ e, (∑ n, x (ix2 n e) * attention (fun n => bt (ix1 n))
          (fun n => score w (fun a => b (ix1 a)) (fun a => cx (ix1 a)) fun d => x (ix2 n d)) g n) * wo (ix2 d e)
        + bo (ix1 d) := by
  unfold refAll
  refine (refOut_apply _ _ _ g d).trans ?_
  refine congrArg (· + bo (ix1 d)) (Finset.sum_congr rfl fun e _ => congrArg (· * wo (ix2 d e)) ?_)
  refine (refPooled_apply _ _ _ g e).trans (Finset.sum_congr rfl fun n _ => ?_)
  rw [refTerm]
  simp only [refScores_apply]

end Stages

/-- **The equation**: on the same arguments the reference's result and the kernel's are equal, entry by entry. -/
theorem result_eq (m : (ℓ : Loc Cert.KernelIdeal.nD Cert.KernelIdeal.τ Cert.KernelIdeal.sig) → Buf (Elt Ideal) ℓ)
    (c : Dev Cert.KernelIdeal.nD) :
    refAll (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
      = Cert.KernelIdeal.Value.G7 m c := by
  funext i
  obtain ⟨g, d, rfl⟩ : ∃ (g : Fin 128) (d : Fin 512), i = ix2 g d := ⟨i 0, i 1, eq_ix2 i⟩
  exact (refAll_apply _ _ _ _ _ _ _ g d).trans (kernel_value m c g d).symm

end Cert.Pool
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the same arguments the kernel and the reference end with the same result, as exact extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have e := Cert.Pool.reference_eq m' c
  simp only [hagree c] at e
  exact e.trans (Cert.Pool.result_eq m c)

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
